-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_arguments : Cert.Pre_finite_arguments.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
-- ==== Pre_finite_arguments.lean ====
abbrev S16384x2048 : Shape := ⟨2, ![16384, 2048]⟩
abbrev S2048x64 : Shape := ⟨2, ![2048, 64]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S2048x64 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S2048x64 : Shape := ⟨2, ![2048, 64]⟩
abbrev S64 : Shape := ⟨1, ![64]⟩
abbrev S64x2048 : Shape := ⟨2, ![64, 2048]⟩
abbrev S1x64 : Shape := ⟨2, ![1, 64]⟩
abbrev S64x16384 : Shape := ⟨2, ![64, 16384]⟩
abbrev S2x16384 : Shape := ⟨2, ![2, 16384]⟩
abbrev S16384x64 : Shape := ⟨2, ![16384, 64]⟩
abbrev S16384x2 : Shape := ⟨2, ![16384, 2]⟩
abbrev S1024x2048 : Shape := ⟨2, ![1024, 2048]⟩
abbrev S64x1024 : Shape := ⟨2, ![64, 1024]⟩
abbrev S2x1024 : Shape := ⟨2, ![2, 1024]⟩
abbrev S1024x64 : Shape := ⟨2, ![1024, 64]⟩
abbrev S1024 : Shape := ⟨1, ![1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S2048x64, .f32⟩
  | .hbm, ⟨2, _⟩ => ⟨S64, .f32⟩
  | .hbm, ⟨3, _⟩ => ⟨S64x2048, .f32⟩
  | .hbm, ⟨4, _⟩ => ⟨S1x64, .f32⟩
  | .hbm, ⟨5, _⟩ => ⟨S64x16384, .f32⟩
  | .hbm, ⟨6, _⟩ => ⟨S2x16384, .i32⟩
  | .hbm, ⟨7, _⟩ => ⟨S16384x64, .f32⟩
  | .hbm, ⟨8, _⟩ => ⟨S16384x2, .i32⟩
  | .local _ .vmem, ⟨0, _⟩ => ⟨S1024x2048, .f32⟩
  | .local _ .vmem, ⟨1, _⟩ => ⟨S1024x2048, .f32⟩
  | .local _ .vmem, ⟨2, _⟩ => ⟨S64x2048, .f32⟩
  | .local _ .vmem, ⟨3, _⟩ => ⟨S1x64, .f32⟩
  | .local _ .vmem, ⟨4, _⟩ => ⟨S64x1024, .f32⟩
  | .local _ .vmem, ⟨5, _⟩ => ⟨S64x1024, .f32⟩
  | .local _ .vmem, ⟨6, _⟩ => ⟨S2x1024, .i32⟩
  | .local _ .vmem, ⟨7, _⟩ => ⟨S2x1024, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2_0 : Ref sig .tc := ⟨.hbm, 5, rfl⟩
abbrev main_call0_v2_1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x2048 : Shape := ⟨2, ![16384, 2048]⟩
abbrev S2048x64 : Shape := ⟨2, ![2048, 64]⟩
abbrev S64 : Shape := ⟨1, ![64]⟩
abbrev S16384x64 : Shape := ⟨2, ![16384, 64]⟩
abbrev S1x64 : Shape := ⟨2, ![1, 64]⟩
abbrev S16384x2 : Shape := ⟨2, ![16384, 2]⟩
abbrev S_ : Shape := ⟨0, ![]⟩
abbrev S16384 : Shape := ⟨1, ![16384]⟩
abbrev S16384x1 : Shape := ⟨2, ![16384, 1]⟩
abbrev S16384x2x1 : Shape := ⟨3, ![16384, 2, 1]⟩
abbrev S16384x2x2 : Shape := ⟨3, ![16384, 2, 2]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x64, .f32⟩
  | .hbm, ⟨2, _⟩ => ⟨S64, .f32⟩
  | .hbm, ⟨3, _⟩ => ⟨S16384x64, .f32⟩
  | .hbm, ⟨4, _⟩ => ⟨S1x64, .f32⟩
  | .hbm, ⟨5, _⟩ => ⟨S16384x64, .f32⟩
  | .hbm, ⟨6, _⟩ => ⟨S16384x64, .f32⟩
  | .hbm, ⟨7, _⟩ => ⟨S16384x2, .f32⟩
  | .hbm, ⟨8, _⟩ => ⟨S16384x2, .i32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x2, .f32⟩
  | .hbm, ⟨16, _⟩ => ⟨S16384x2, .f32⟩
  | .hbm, ⟨17, _⟩ => ⟨S16384x2, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x2, .f32⟩
  | .hbm, ⟨22, _⟩ => ⟨S16384x2, .f32⟩
  | .hbm, ⟨23, _⟩ => ⟨S_, .f32⟩
  | .hbm, ⟨24, _⟩ => ⟨S16384x64, .f32⟩
  | .hbm, ⟨25, _⟩ => ⟨S16384, .i32⟩
  | .hbm, ⟨26, _⟩ => ⟨S16384x1, .i32⟩
  | .hbm, ⟨27, _⟩ => ⟨S_, .i32⟩
  | .hbm, ⟨28, _⟩ => ⟨S16384x1, .i32⟩
  | .hbm, ⟨29, _⟩ => ⟨S16384x1, .i1⟩
  | .hbm, ⟨30, _⟩ => ⟨S_, .i32⟩
  | .hbm, ⟨31, _⟩ => ⟨S16384x1, .i32⟩
  | .hbm, ⟨32, _⟩ => ⟨S16384x1, .i32⟩
  | .hbm, ⟨33, _⟩ => ⟨S16384x1, .i32⟩
  | .hbm, ⟨34, _⟩ => ⟨S_, .i32⟩
  | .hbm, ⟨35, _⟩ => ⟨S16384x2, .i32⟩
  | .hbm, ⟨36, _⟩ => ⟨S16384x2, .i1⟩
  | .hbm, ⟨37, _⟩ => ⟨S_, .i32⟩
  | .hbm, ⟨38, _⟩ => ⟨S16384x2, .i32⟩
  | .hbm, ⟨39, _⟩ => ⟨S16384x2, .i32⟩
  | .hbm, ⟨40, _⟩ => ⟨S16384x2, .i32⟩
  | .hbm, ⟨41, _⟩ => ⟨S16384x2, .i32⟩
  | .hbm, ⟨42, _⟩ => ⟨S16384x2x1, .i32⟩
  | .hbm, ⟨43, _⟩ => ⟨S16384x2x1, .i32⟩
  | .hbm, ⟨44, _⟩ => ⟨S16384x2x2, .i32⟩
  | .hbm, ⟨45, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Proof.Top2.lean ====
module
public import Idealize.ShloMosaic.Lib.Pipeline.ValueKit
public import Idealize.ShloMosaic.Lib.SortNet.Extract

/-!
The two largest entries of a row of extended reals, ties going to the smaller index, and how a
maximum fold and a minimum fold over the row find them.
-/

@[expose] public section

namespace Cert.Router

open Idealize.ShloMosaic

/-- The places `i1` and `i2` hold the largest and the second largest entry of the row `f`; among
    equal entries the smaller index comes first. -/
structure IsTop2 {n : Nat} (f : Fin n → EReal) (i1 i2 : Fin n) : Prop where
  /-- The two places differ. -/
  ne : i2 ≠ i1
  /-- The first entry is the largest. -/
  max1 : ∀ j, f j ≤ f i1
  /-- The first place is the earliest one holding the largest entry. -/
  first1 : ∀ j, f j = f i1 → i1 ≤ j
  /-- The second entry is the largest of the others. -/
  max2 : ∀ j, j ≠ i1 → f j ≤ f i2
  /-- The second place is the earliest of the others holding that entry. -/
  first2 : ∀ j, j ≠ i1 → f j = f i2 → i2 ≤ j

/-- Over a nonempty set of places there is an earliest place holding the largest entry. -/
theorem exists_first_max {n : Nat} (f : Fin n → EReal) (s : Finset (Fin n)) (hs : s.Nonempty) :
    ∃ i ∈ s, (∀ j ∈ s, f j ≤ f i) ∧ ∀ j ∈ s, f j = f i → i ≤ j := by
  obtain ⟨a, ha, hmax⟩ := s.exists_max_image f hs
  have hne : (s.filter fun j => f j = f a).Nonempty := ⟨a, Finset.mem_filter.2 ⟨ha, rfl⟩⟩
  have hmem := Finset.mem_filter.1 (Finset.min'_mem _ hne)
  refine ⟨_, hmem.1, fun j hj => by rw [hmem.2]; exact hmax j hj, fun j hj he => ?_⟩
  exact Finset.min'_le _ _ (Finset.mem_filter.2 ⟨hj, he.trans hmem.2⟩)

/-- Every row of at least two entries has its two largest places. -/
theorem exists_isTop2 {n : Nat} (hn : 2 ≤ n) (f : Fin n → EReal) : ∃ i1 i2, IsTop2 f i1 i2 := by
  obtain ⟨i1, _, h1, h1'⟩ := exists_first_max f Finset.univ ⟨⟨0, by omega⟩, Finset.mem_univ _⟩
  have hne : (Finset.univ.erase i1).Nonempty := by
    rw [← Finset.card_pos, Finset.card_erase_of_mem (Finset.mem_univ _), Finset.card_univ, Fintype.card_fin]
    omega
  obtain ⟨i2, hi2, h2, h2'⟩ := exists_first_max f _ hne
  exact ⟨i1, i2, (Finset.mem_erase.1 hi2).1, fun j => h1 j (Finset.mem_univ _),
    fun j => h1' j (Finset.mem_univ _), fun j hj => h2 j (Finset.mem_erase.2 ⟨hj, Finset.mem_univ _⟩),
    fun j hj => h2' j (Finset.mem_erase.2 ⟨hj, Finset.mem_univ _⟩)⟩

/-- The row with its largest entry struck out: minus infinity there, unchanged elsewhere. -/
noncomputable def struck {n : Nat} (f : Fin n → EReal) (i1 : Fin n) (j : Fin n) : EReal :=
  if j = i1 then ⊥ else f j

/-- The maximum fold from minus infinity is an entry that no other entry exceeds. -/
theorem fold_max_eq {n : Nat} (f : Fin n → EReal) (i : Fin n) (h : ∀ j, f j ≤ f i) :
    Finset.univ.fold max ⊥ f = f i :=
  le_antisymm (Finset.fold_max_le _ |>.2 ⟨bot_le, fun j _ => h j⟩)
    (Finset.le_fold_max _ |>.2 (Or.inr ⟨i, Finset.mem_univ _, le_refl _⟩))

/-- The struck row's largest entry is the second largest of the row. -/
theorem IsTop2.fold_struck {n : Nat} {f : Fin n → EReal} {i1 i2 : Fin n} (h : IsTop2 f i1 i2) :
    Finset.univ.fold max ⊥ (struck f i1) = f i2 := by
  have e : struck f i1 i2 = f i2 := if_neg h.ne
  rw [← e]
  refine fold_max_eq _ _ fun j => ?_
  rw [e]
  unfold struck
  split
  · exact bot_le
  · next hj => exact h.max2 j hj

/-- With every entry above minus infinity, the places of the struck row holding the second largest
    entry are the places of the row other than the first one. -/
theorem IsTop2.struck_eq_iff {n : Nat} {f : Fin n → EReal} {i1 i2 : Fin n} (_ : IsTop2 f i1 i2)
    (hf : ∀ j, ⊥ < f j) (j : Fin n) : struck f i1 j = f i2 ↔ j ≠ i1 ∧ f j = f i2 := by
  unfold struck
  split
  · next hj => exact ⟨fun e => absurd e (hf i2).ne, fun e => absurd hj e.1⟩
  · next hj => exact ⟨fun e => ⟨hj, e⟩, fun e => e.2⟩

/-- A fold of the signed minimum over a set is at most every word met, and is the start or one of
    the words met. -/
theorem fold_minsi_spec {ι : Type} [DecidableEq ι] {w : Nat} (g : ι → BitVec w) (s : Finset ι) (z : BitVec w) :
    (∀ i ∈ s, (s.fold IntOp.minsi z g).toInt ≤ (g i).toInt) ∧
      (s.fold IntOp.minsi z g = z ∨ ∃ i ∈ s, s.fold IntOp.minsi z g = g i) := by
  induction s using Finset.induction_on with
  | empty => exact ⟨fun i hi => absurd hi (Finset.notMem_empty i), Or.inl Finset.fold_empty⟩
  | insert a s ha ih =>
    rw [Finset.fold_insert ha]
    have hm := SortNet.toInt_minsi (g a) (s.fold IntOp.minsi z g)
    refine ⟨fun i hi => ?_, ?_⟩
    · rw [hm]
      rcases Finset.mem_insert.1 hi with rfl | hi
      · exact min_le_left _ _
      · exact (min_le_right _ _).trans (ih.1 i hi)
    · rcases min_choice (g a).toInt (s.fold IntOp.minsi z g).toInt with h | h
      · exact Or.inr ⟨a, Finset.mem_insert_self a s, BitVec.eq_of_toInt_eq (hm.trans h)⟩
      · have e := BitVec.eq_of_toInt_eq (hm.trans h)
        rw [e]
        exact ih.2.imp id fun ⟨i, hi, h'⟩ => ⟨i, Finset.mem_insert_of_mem hi, h'⟩

/-- The word of a small index reads back as that index. -/
theorem toInt_ofNat_fin {n : Nat} (hn : n ≤ 64) (i : Fin n) : (BitVec.ofNat 32 i.val).toInt = i.val := by
  have := i.isLt
  rw [BitVec.toInt_eq_toNat_of_lt (by rw [BitVec.toNat_ofNat]; omega), BitVec.toNat_ofNat,
    Nat.mod_eq_of_lt (by omega)]

/-- The minimum over the indices marked by `p`, an unmarked index counting as sixty-four, is the
    earliest marked index. -/
theorem fold_minsi_first (p : Fin 64 → Prop) [DecidablePred p] (i : Fin 64) (hi : p i) (hmin : ∀ j, p j → i ≤ j) :
    Finset.univ.fold IntOp.minsi 2147483647#32 (fun j : Fin 64 => if p j then BitVec.ofNat 32 j.val else 64#32)
      = BitVec.ofNat 32 i.val := by
  obtain ⟨hle, hmem⟩ := fold_minsi_spec (fun j : Fin 64 => if p j then BitVec.ofNat 32 j.val else 64#32)
    Finset.univ 2147483647#32
  have hi' := hle i (Finset.mem_univ _)
  rw [if_pos hi, toInt_ofNat_fin (le_refl _)] at hi'
  have hlt := i.isLt
  rcases hmem with h | ⟨j, _, h⟩
  · rw [h] at hi'
    have : (2147483647#32 : BitVec 32).toInt = 2147483647 := by decide
    omega
  · rw [h] at hi' ⊢
    split at hi'
    · next hj =>
      rw [toInt_ofNat_fin (le_refl _)] at hi'
      rw [if_pos hj, Fin.le_antisymm (Fin.le_def.2 (by omega)) (hmin j hj)]
    · have : (64#32 : BitVec 32).toInt = 64 := by decide
      omega

/-- Two small indices are equal exactly when their words are. -/
theorem ofNat_eq_iff (i j : Fin 64) : BitVec.ofNat 32 i.val = BitVec.ofNat 32 j.val ↔ i = j := by
  refine ⟨fun h => Fin.ext ?_, fun h => by rw [h]⟩
  have := congrArg BitVec.toInt h
  rw [toInt_ofNat_fin (le_refl _), toInt_ofNat_fin (le_refl _)] at this
  omega

/-- A choice on the equality of two index words is a choice on the equality of the indices. -/
theorem select_ofNat_eq {α : Type} (i j : Fin 64) (a b : α) :
    Scalar.select (IntOp.cmpi .eq (BitVec.ofNat 32 i.val) (BitVec.ofNat 32 j.val)) a b = if i = j then a else b := by
  have : IntOp.cmpi .eq (BitVec.ofNat 32 i.val) (BitVec.ofNat 32 j.val) = if i = j then 1#1 else 0#1 := by
    show BitVec.ofBool (BitVec.ofNat 32 i.val == BitVec.ofNat 32 j.val) = _
    by_cases h : i = j
    · rw [if_pos h, h, beq_self_eq_true]; rfl
    · rw [if_neg h, beq_eq_false_iff_ne.2 fun e => h ((ofNat_eq_iff i j).1 e)]; rfl
  rw [this]
  by_cases h : i = j
  · rw [if_pos h, if_pos h]; rfl
  · rw [if_neg h, if_neg h]; rfl

/-- The pattern with an all-ones exponent, no fraction and the sign set denotes minus infinity. -/
theorem ofBits_negInf : Ideal.ofBits .f32 4286578688#32 = ⊥ := by
  simp [Ideal.ofBits, Ideal.ieee]

end Cert.Router

end
-- ==== Proof.Logits.lean ====
module
public import proofs.«01_k».proof.Proof.Top2

/-!
The logits of a router over its three arguments, and the two chosen experts of every token.
-/

@[expose] public section

noncomputable section

namespace Cert.Router

open Idealize.ShloMosaic

/-- The logit of expert `e` for token `r`: the token's row times the expert's column, plus the
    expert's bias. -/
def logit (x : Vec Ideal ⟨2, ![16384, 2048]⟩ .f32) (W : Vec Ideal ⟨2, ![2048, 64]⟩ .f32) (b : Vec Ideal ⟨1, ![64]⟩ .f32)
    (r : Fin 16384) (e : Fin 64) : EReal :=
  (∑ k : Fin 2048, x (ix2 r k) * W (ix2 k e)) + b (ix1 e)

/-- The place of the largest entry of a row of sixty-four. -/
def top1 (f : Fin 64 → EReal) : Fin 64 := (exists_isTop2 (by decide) f).choose

/-- The place of the second largest entry of a row of sixty-four. -/
def top2 (f : Fin 64 → EReal) : Fin 64 := (exists_isTop2 (by decide) f).choose_spec.choose

/-- They are the two largest, ties going to the smaller index. -/
theorem isTop2 (f : Fin 64 → EReal) : IsTop2 f (top1 f) (top2 f) :=
  (exists_isTop2 (by decide) f).choose_spec.choose_spec

/-- The gate of expert `e` in a row of logits whose two largest entries sit at `i1` and `i2`: the
    softmax of the two entries, each at its place, zero elsewhere. -/
def gate {n : Nat} (f : Fin n → EReal) (i1 i2 e : Fin n) : EReal :=
  (if e = i1 then Ideal.div 1 (1 + Ideal.exp (f i2 - f i1)) else 0)
    + (if e = i2 then Ideal.div (Ideal.exp (f i2 - f i1)) (1 + Ideal.exp (f i2 - f i1)) else 0)

/-- The `k`-th of two places. -/
def place {n : Nat} (i1 i2 : Fin n) (k : Fin 2) : Fin n := if k.val = 0 then i1 else i2

/-- The expert number in place `k` of two: the first place's, then the second's. -/
def chosen {n : Nat} (i1 i2 : Fin n) (k : Fin 2) : BitVec 32 :=
  BitVec.ofNat 32 (place i1 i2 k).val

variable (x : Vec Ideal ⟨2, ![16384, 2048]⟩ .f32) (W : Vec Ideal ⟨2, ![2048, 64]⟩ .f32) (b : Vec Ideal ⟨1, ![64]⟩ .f32)

/-- The gates of all tokens, one row for each. -/
def gateRows : Vec Ideal ⟨2, ![16384, 64]⟩ .f32 :=
  fun j => gate (logit x W b (j 0)) (top1 (logit x W b (j 0))) (top2 (logit x W b (j 0))) (j 1)

/-- The chosen experts of all tokens, one row for each. -/
def expertRows : Vec Ideal ⟨2, ![16384, 2]⟩ .i32 :=
  fun j => chosen (top1 (logit x W b (j 0))) (top2 (logit x W b (j 0))) (j 1)

end Cert.Router

end

end
-- ==== Proof.KernelBlock.lean ====
module
public import proofs.«01_k».proof.Proof.Gen.KernelIdeal.Frame
public import proofs.«01_k».proof.Proof.Logits
public import Idealize.ShloMosaic.Lib.Pipeline.ValueKit

/-!
What one grid step of the router kernel computes from its three blocks: column by column, the two
largest logits of a token, their softmax placed at the two experts, and the two expert numbers.
-/

@[expose] public section

set_option maxRecDepth 16384

noncomputable section

namespace Cert.KernelIdeal.Value

open Idealize.ShloMosaic Idealize.ShloMosaic.TcCoe Idealize.SL.Sem
open Cert.KernelIdeal Cert.KernelIdeal.Gen Cert.Router

variable (v0 : Vec Ideal S1024x2048 .f32) (v1 : Vec Ideal S64x2048 .f32) (v4 : Vec Ideal S1x64 .f32)

/-- The logits of the token in lane `l` of a block. -/
def blockLogit (l : Fin 1024) (e : Fin 64) : EReal :=
  (∑ k : Fin 2048, v0 (ix2 l k) * v1 (ix2 e k)) + v4 (ix2 0 e)

/-- The transposed logits of a block. -/
theorem logits_at (e : Fin 64) (l : Fin 1024) :
    k0_pay3 (F := Ideal) v0 v1 v4 (ix2 e l) = blockLogit v0 v1 v4 l e := by
  unfold blockLogit
  pointwise [k0_pay3]

/-- The largest logit of each lane, as a fold. -/
theorem max_at (l : Fin 1024) :
    k0_pay4 (F := Ideal) v0 v1 v4 (ix2 0 l) = Finset.univ.fold max ⊥ (blockLogit v0 v1 v4 l) := by
  pointwise [k0_pay4]
  rw [ofBits_negInf]
  simp only [logits_at]

variable {v0 v1 v4} {l : Fin 1024} {i1 i2 : Fin 64}

/-- The largest logit of a lane. -/
theorem max_eq (h : IsTop2 (blockLogit v0 v1 v4 l) i1 i2) :
    k0_pay4 (F := Ideal) v0 v1 v4 (ix2 0 l) = blockLogit v0 v1 v4 l i1 := by
  rw [max_at, fold_max_eq _ i1 h.max1]

/-- The expert of the largest logit. -/
theorem argmax_eq (h : IsTop2 (blockLogit v0 v1 v4 l) i1 i2) :
    k0_pay5 (F := Ideal) v0 v1 v4 (ix2 0 l) = BitVec.ofNat 32 i1.val := by
  pointwise [k0_pay5]
  simp only [logits_at, max_eq h]
  exact fold_minsi_first _ i1 rfl fun j hj => h.first1 j hj

/-- The logits with the largest struck out. -/
theorem struck_at (h : IsTop2 (blockLogit v0 v1 v4 l) i1 i2) (e : Fin 64) :
    k0_pay6 (F := Ideal) v0 v1 v4 (ix2 e l) = struck (blockLogit v0 v1 v4 l) i1 e := by
  pointwise [k0_pay6]
  rw [ofBits_negInf, logits_at, argmax_eq h, select_ofNat_eq]
  rfl

/-- The second largest logit of a lane. -/
theorem max2_eq (h : IsTop2 (blockLogit v0 v1 v4 l) i1 i2) :
    k0_pay7 (F := Ideal) v0 v1 v4 (ix2 0 l) = blockLogit v0 v1 v4 l i2 := by
  pointwise [k0_pay7]
  rw [ofBits_negInf]
  simp only [struck_at h]
  exact h.fold_struck

/-- The expert of the second largest logit, when no logit is minus infinity. -/
theorem argmax2_eq (h : IsTop2 (blockLogit v0 v1 v4 l) i1 i2) (hf : ∀ e, ⊥ < blockLogit v0 v1 v4 l e) :
    k0_pay8 (F := Ideal) v0 v1 v4 (ix2 0 l) = BitVec.ofNat 32 i2.val := by
  pointwise [k0_pay8]
  simp only [struck_at h, max2_eq h]
  exact fold_minsi_first _ i2 ((h.struck_eq_iff hf i2).2 ⟨h.ne, rfl⟩) fun j hj =>
    h.first2 j ((h.struck_eq_iff hf j).1 hj).1 ((h.struck_eq_iff hf j).1 hj).2

/-- The block of gates a step stores. -/
theorem gates_block (h : IsTop2 (blockLogit v0 v1 v4 l) i1 i2) (hf : ∀ e, ⊥ < blockLogit v0 v1 v4 l e) (e : Fin 64) :
    out0_3 (F := Ideal) v0 v1 v4 (ix2 e l) = gate (blockLogit v0 v1 v4 l) i1 i2 e := by
  unfold_out out0_3
  frame_out
  pointwise [k0_pay1, k0_pay11, k0_pay12, k0_pay13, k0_pay14, k0_pay10, k0_pay9]
  simp only [max_eq h, max2_eq h, argmax_eq h, argmax2_eq h hf, select_ofNat_eq]
  rfl

/-- The block of expert numbers a step stores. -/
theorem experts_block (h : IsTop2 (blockLogit v0 v1 v4 l) i1 i2) (hf : ∀ e, ⊥ < blockLogit v0 v1 v4 l e) (k : Fin 2) :
    out0_4 (F := Ideal) v0 v1 v4 (ix2 k l) = chosen i1 i2 k := by
  unfold_out out0_4
  frame_out
  pointwise [k0_pay2]
  unfold chosen place
  fin_cases k
  · simpa using argmax_eq h
  · simpa using argmax2_eq h hf

end Cert.KernelIdeal.Value

end

end
-- ==== Proof.KernelArray.lean ====
module
public import proofs.«01_k».proof.Proof.KernelBlock

/-!
What the router kernel leaves in its two result arrays: for every token, the gates of its row of
logits and the two chosen experts.
-/

@[expose] public section

set_option maxRecDepth 16384

noncomputable section

namespace Cert.KernelIdeal.Value

open Idealize.ShloMosaic Idealize.ShloMosaic.TcCoe Idealize.SL.Sem
open Cert.KernelIdeal Cert.KernelIdeal.Gen Cert.Router

variable (m : (ℓ : Loc nD τ sig) → Buf (Elt Ideal) ℓ)

/-- The kernel's second block array is the transposed weight matrix. -/
theorem V_weights (c : Dev nD) : (V m c main_call0_v0 : Vec Ideal S64x2048 .f32) =
    transpose S64x2048 [1, 0] (m ((c : Thread nD τ).loc main_arg1)) transposes_S2048x64_S64x2048_1_0 := by
  unfold_abbrev_sides
  unfold hostOps0
  rw [List.flatten_cons, List.flatten_nil, List.append_nil]
  after_results_simp
  rfl

/-- The kernel's third block array is the bias as one row. -/
theorem V_bias (c : Dev nD) : (V m c main_call0_v1 : Vec Ideal S1x64 .f32) =
    shapeCast S1x64 (m ((c : Thread nD τ).loc main_arg2)) shapeCasts_S64_S1x64 := by
  unfold_abbrev_sides
  unfold hostOps0
  rw [List.flatten_cons, List.flatten_nil, List.append_nil]
  after_results_simp
  rfl

/-- Where each window's block sits at each grid step. -/
theorem idx : ∀ t : Fin cfg0.N, win0_0.index t = ![t.val, 0] ∧ win0_1.index t = ![0, 0] ∧ win0_2.index t = ![0, 0]
    ∧ win0_3.index t = ![0, t.val] ∧ win0_4.index t = ![0, t.val] :=
  (by decide +kernel : ∀ t : Fin grid0.N, _)

/-- The token in lane `l` of step `t`. -/
def token (t : Fin cfg0.N) (l : Fin 1024) : Fin 16384 :=
  ⟨t.val * 1024 + l.val, by have h : t.val < 16 := t.isLt; have := l.isLt; omega⟩

/-- The first block of a step holds the rows of the step's tokens. -/
theorem iblk0_at (c : Dev nD) (t : Fin cfg0.N) (l : Fin 1024) (k : Fin 2048) :
    (iblk m c 0 t : Vec Ideal S1024x2048 .f32) (ix2 l k) =
      (m ((c : Thread nD τ).loc main_arg0) : Vec Ideal S16384x2048 .f32) (ix2 (token t l) k) := by
  rw [← V_main_arg0 m c]
  blk_point [iblk, (idx t).1]
  rfl

/-- The second block of every step is the whole transposed weight matrix. -/
theorem iblk1_at (c : Dev nD) (t : Fin cfg0.N) (e : Fin 64) (k : Fin 2048) :
    (iblk m c 1 t : Vec Ideal S64x2048 .f32) (ix2 e k) =
      (m ((c : Thread nD τ).loc main_arg1) : Vec Ideal S2048x64 .f32) (ix2 k e) := by
  have h : (iblk m c 1 t : Vec Ideal S64x2048 .f32) (ix2 e k) = (V m c main_call0_v0 : Vec Ideal S64x2048 .f32) (ix2 e k) := by
    blk_point [iblk, (idx t).2.1]
  rw [h, V_weights]
  pointwise

/-- The third block of every step is the whole bias row. -/
theorem iblk2_at (c : Dev nD) (t : Fin cfg0.N) (e : Fin 64) :
    (iblk m c 2 t : Vec Ideal S1x64 .f32) (ix2 0 e) =
      (m ((c : Thread nD τ).loc main_arg2) : Vec Ideal S64 .f32) (ix1 e) := by
  have h : (iblk m c 2 t : Vec Ideal S1x64 .f32) (ix2 0 e) = (V m c main_call0_v1 : Vec Ideal S1x64 .f32) (ix2 0 e) := by
    blk_point [iblk, (idx t).2.2.1]
  rw [h, V_bias]
  pointwise

/-- The row of logits of token `r` in the memory `m`. -/
abbrev row (c : Dev nD) (r : Fin 16384) : Fin 64 → EReal :=
  logit (m ((c : Thread nD τ).loc main_arg0)) (m ((c : Thread nD τ).loc main_arg1)) (m ((c : Thread nD τ).loc main_arg2)) r

/-- A lane's logits in a step's blocks are the logits of its token. -/
theorem blockLogit_eq (c : Dev nD) (t : Fin cfg0.N) (l : Fin 1024) :
    blockLogit (iblk m c 0 t) (iblk m c 1 t) (iblk m c 2 t) l = row m c (token t l) := by
  funext e
  unfold blockLogit row logit
  rw [iblk2_at]
  simp only [iblk0_at, iblk1_at]

/-- The gates, one column for each token. -/
def gatesT (c : Dev nD) : Vec Ideal S64x16384 .f32 :=
  fun j => gate (row m c (j 1)) (top1 (row m c (j 1))) (top2 (row m c (j 1))) (j 0)

/-- The chosen experts, one column for each token. -/
def expertsT (c : Dev nD) : Vec Ideal S2x16384 .i32 :=
  fun j => chosen (top1 (row m c (j 1))) (top2 (row m c (j 1))) (j 0)

/-- The gates, one row for each token. -/
def gates (c : Dev nD) : Vec Ideal S16384x64 .f32 :=
  gateRows (m ((c : Thread nD τ).loc main_arg0)) (m ((c : Thread nD τ).loc main_arg1)) (m ((c : Thread nD τ).loc main_arg2))

/-- The chosen experts, one row for each token. -/
def experts (c : Dev nD) : Vec Ideal S16384x2 .i32 :=
  expertRows (m ((c : Thread nD τ).loc main_arg0)) (m ((c : Thread nD τ).loc main_arg1)) (m ((c : Thread nD τ).loc main_arg2))

variable {m} {c : Dev nD} (hf : ∀ r e, ⊥ < row m c r e)

include hf in
/-- The steps leave the gates in the first result array. -/
theorem final_gates : ((dats m 0 c).arrAt 3 (cfgs 0).N : Vec Ideal S64x16384 .f32) = gatesT m c := by
  refine (dats m 0 c).arrAt_eq_of_covers 3 _ (by decide +kernel) fun t _ y => ?_
  blk_simp
  rw [after0_3]
  obtain ⟨e, l, rfl⟩ : ∃ (e : Fin 64) (l : Fin 1024), y = ix2 e l := ⟨y 0, y 1, eq_ix2 y⟩
  have hemb : (win0_3.blk t).view.emb (ix2 e l) = ix2 e (token t l) := by
    blk_ext [(idx t).2.2.2.1]
    all_goals rfl
  rw [hemb]
  have hrow := blockLogit_eq m c t l
  refine (gates_block (hrow ▸ isTop2 (row m c (token t l))) (by rw [hrow]; exact hf _) e).trans ?_
  rw [hrow]
  rfl

include hf in
/-- The steps leave the chosen experts in the second result array. -/
theorem final_experts : ((dats m 0 c).arrAt 4 (cfgs 0).N : Vec Ideal S2x16384 .i32) = expertsT m c := by
  refine (dats m 0 c).arrAt_eq_of_covers 4 _ (by decide +kernel) fun t _ y => ?_
  blk_simp
  rw [after0_4]
  obtain ⟨e, l, rfl⟩ : ∃ (e : Fin 2) (l : Fin 1024), y = ix2 e l := ⟨y 0, y 1, eq_ix2 y⟩
  have hemb : (win0_4.blk t).view.emb (ix2 e l) = ix2 e (token t l) := by
    blk_ext [(idx t).2.2.2.2]
    all_goals rfl
  rw [hemb]
  have hrow := blockLogit_eq m c t l
  refine (experts_block (hrow ▸ isTop2 (row m c (token t l))) (by rw [hrow]; exact hf _) e).trans ?_
  rw [hrow]
  rfl

end Cert.KernelIdeal.Value

end

end
-- ==== Proof.KernelRun.lean ====
module
public import proofs.«01_k».proof.Proof.KernelArray
public import Idealize.ShloMosaic.Lib.Claim

/-!
The router kernel's run: it ends with the gates and the chosen experts of every token in its two
results, its arguments unchanged.
-/

@[expose] public section

set_option maxRecDepth 16384

noncomputable section

namespace Cert.KernelIdeal.Value

open Idealize.ShloMosaic Idealize.ShloMosaic.TcCoe Idealize.SL.Sem
open Cert.KernelIdeal Cert.KernelIdeal.Gen Cert.Router

variable {m : (ℓ : Loc nD τ sig) → Buf (Elt Ideal) ℓ}

/-- The first result after the closing transposes: the gates, row by row. -/
theorem result_gates {c : Dev nD} (hf : ∀ r e, ⊥ < row m c r e) :
    (Pipeline.afterTail₀ cfgs (dats m) 0 (V0 m) [hostOps1] c main_v0_0 : Vec Ideal S16384x64 .f32) = gates m c := by
  have h : (Pipeline.afterTail₀ cfgs (dats m) 0 (V0 m) [hostOps1] c main_v0_0 : Vec Ideal S16384x64 .f32) =
      transpose S16384x64 [1, 0] ((dats m 0 c).arrAt 3 (cfgs 0).N : Vec Ideal S64x16384 .f32)
        transposes_S64x16384_S16384x64_1_0 := by
    unfold Pipeline.afterTail₀ hostOps1
    rw [List.flatten_cons, List.flatten_nil, List.append_nil]
    after_results_simp
    exact congrArg (transpose S16384x64 [1, 0] · transposes_S64x16384_S16384x64_1_0)
      (Pipeline.withArrays_arr spec0 (by decide) c (V0 m c) (fun w => (dats m 0 c).arrAt w (cfgs 0).N) 3)
  rw [h, final_gates hf]
  funext j
  obtain ⟨r, e, rfl⟩ : ∃ (r : Fin 16384) (e : Fin 64), j = ix2 r e := ⟨j 0, j 1, eq_ix2 j⟩
  pointwise
  rfl

/-- The second result after the closing transposes: the chosen experts, row by row. -/
theorem result_experts {c : Dev nD} (hf : ∀ r e, ⊥ < row m c r e) :
    (Pipeline.afterTail₀ cfgs (dats m) 0 (V0 m) [hostOps1] c main_v0_1 : Vec Ideal S16384x2 .i32) = experts m c := by
  have h : (Pipeline.afterTail₀ cfgs (dats m) 0 (V0 m) [hostOps1] c main_v0_1 : Vec Ideal S16384x2 .i32) =
      transpose S16384x2 [1, 0] ((dats m 0 c).arrAt 4 (cfgs 0).N : Vec Ideal S2x16384 .i32)
        transposes_S2x16384_S16384x2_1_0 := by
    unfold Pipeline.afterTail₀ hostOps1
    rw [List.flatten_cons, List.flatten_nil, List.append_nil]
    after_results_simp
    exact congrArg (transpose S16384x2 [1, 0] · transposes_S2x16384_S16384x2_1_0)
      (Pipeline.withArrays_arr spec0 (by decide) c (V0 m c) (fun w => (dats m 0 c).arrAt w (cfgs 0).N) 4)
  rw [h, final_experts hf]
  funext j
  obtain ⟨r, e, rfl⟩ : ∃ (r : Fin 16384) (e : Fin 2), j = ix2 r e := ⟨j 0, j 1, eq_ix2 j⟩
  pointwise
  rfl

/-- The run of the kernel, its results named. -/
theorem run (hf : ∀ c r e, ⊥ < row m c r e) (g : Dev nD → PrngReg) :
    θ_run (defs (F := Ideal)) (onTc (τ := τ) (main (F := Ideal))) ⟨m, fun _ => 0, g⟩ (fun r => ∀ c : Dev nD,
      r.2.mem ((c.tc : Thread nD τ).loc main_v0_0) = gates m c
      ∧ r.2.mem ((c.tc : Thread nD τ).loc main_v0_1) = experts m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from Gen.run_main m g
  · exact result_gates (hf c)
  · exact result_experts (hf c)
  · exact W_main_arg1 m (dats m) c
  · exact W_main_arg2 m (dats m) c

end Cert.KernelIdeal.Value

end

end
-- ==== Proof.SortTop2.lean ====
module
public import proofs.«01_k».proof.Proof.Logits
public import Idealize.ShloMosaic.Lib.SortFacts

/-!
A stable sort of a row of extended reals, greater first, puts the two largest entries first, ties
going to the smaller index; so the host's top-k reads them.
-/

@[expose] public section

noncomputable section

namespace Cert.Router

open Idealize.ShloMosaic

variable {n : Nat} (f : Fin n → EReal)

/-- Position `i` comes before position `j`: its entry is greater, or equal at a smaller index. -/
def Earlier (i j : Fin n) : Prop := f j < f i ∨ (f i = f j ∧ i < j)

theorem Earlier.trans {f : Fin n → EReal} {i j k : Fin n} (h : Earlier f i j) (h' : Earlier f j k) : Earlier f i k := by
  rcases h with h | ⟨h, hi⟩ <;> rcases h' with h' | ⟨h', hi'⟩
  · exact Or.inl (h'.trans h)
  · exact Or.inl (h' ▸ h)
  · exact Or.inl (h ▸ h')
  · exact Or.inr ⟨h.trans h', hi.trans hi'⟩

/-- The sort's own comparison: the entry is greater. -/
def greater (i j : Fin n) : Bool := decide (f j < f i)

/-- Inserting a position below all of an ordered list's keeps the list ordered. -/
theorem pairwise_insert (a : Fin n) (s : List (Fin n)) (hs : s.Pairwise (Earlier f)) (ha : ∀ b ∈ s, a < b) :
    (insertBefore (greater f) a s).Pairwise (Earlier f) := by
  induction s with
  | nil => exact List.pairwise_singleton _ _
  | cons b s ih =>
    rw [List.pairwise_cons] at hs
    unfold insertBefore
    split
    · next hb =>
      have hb' : f a < f b := of_decide_eq_true hb
      rw [List.pairwise_cons]
      refine ⟨fun x hx => ?_, ih hs.2 fun y hy => ha y (List.mem_cons_of_mem _ hy)⟩
      rcases List.mem_cons.1 ((perm_insertBefore _ _ _).mem_iff.1 hx) with rfl | hx
      · exact Or.inl hb'
      · exact hs.1 x hx
    · next hb =>
      have hb' : ¬ f a < f b := fun h => hb (decide_eq_true h)
      have hab : Earlier f a b := by
        rcases lt_or_eq_of_le (not_lt.1 hb') with h | h
        · exact Or.inl h
        · exact Or.inr ⟨h.symm, ha b List.mem_cons_self⟩
      rw [List.pairwise_cons, List.pairwise_cons]
      refine ⟨fun x hx => ?_, hs⟩
      rcases List.mem_cons.1 hx with rfl | hx
      · exact hab
      · exact hab.trans (hs.1 x hx)

/-- The stable sort of an ascending list of positions is ordered. -/
theorem pairwise_sort (l : List (Fin n)) (hl : l.Pairwise (· < ·)) : (stableSort (greater f) l).Pairwise (Earlier f) := by
  induction l with
  | nil => exact List.Pairwise.nil
  | cons a l ih =>
    rw [List.pairwise_cons] at hl
    exact pairwise_insert f a _ (ih hl.2) fun b hb => hl.1 b ((perm_stableSort _ _).mem_iff.1 hb)

/-- An earlier place of the sorted row holds an earlier position. -/
theorem sorted_earlier {i j : Fin n} (h : i < j) : Earlier f (sortedFrom (greater f) i) (sortedFrom (greater f) j) :=
  List.pairwise_iff_get.1 (pairwise_sort f _ (List.pairwise_lt_finRange n)) _ _ h

variable {f} {i1 i2 : Fin n}

/-- The sorted row begins at the largest entry's place. -/
theorem IsTop2.sorted_zero (h : IsTop2 f i1 i2) {z : Fin n} (hz : z.val = 0) : sortedFrom (greater f) z = i1 := by
  obtain ⟨k, hk⟩ := sortedFrom_surjective (greater f) i1
  rcases Nat.eq_zero_or_pos k.val with h0 | hpos
  · rw [← hk, Fin.ext (h0.trans hz.symm)]
  · have he := sorted_earlier f (i := z) (j := k) (Fin.lt_def.2 (by omega))
    rw [hk] at he
    rcases he with he | ⟨he, hlt⟩
    · exact absurd he (not_lt.2 (h.max1 _))
    · exact absurd hlt (not_lt.2 (h.first1 _ he))

/-- Its second place is the second largest entry's. -/
theorem IsTop2.sorted_one (h : IsTop2 f i1 i2) {z o : Fin n} (hz : z.val = 0) (ho : o.val = 1) :
    sortedFrom (greater f) o = i2 := by
  obtain ⟨k, hk⟩ := sortedFrom_surjective (greater f) i2
  have h0 := h.sorted_zero hz
  have hne : sortedFrom (greater f) o ≠ i1 := fun e => by
    have := congrArg Fin.val (sortedFrom_injective _ (e.trans h0.symm))
    omega
  rcases Nat.lt_trichotomy k.val 1 with hlt | heq | hgt
  · have : k = z := Fin.ext (by omega)
    rw [this, h0] at hk
    exact absurd hk.symm h.ne
  · rw [← hk, Fin.ext (heq.trans ho.symm)]
  · have he := sorted_earlier f (i := o) (j := k) (Fin.lt_def.2 (by omega))
    rw [hk] at he
    rcases he with he | ⟨he, hlt⟩
    · exact absurd he (not_lt.2 (h.max2 _ hne))
    · exact absurd hlt (not_lt.2 (h.first2 _ hne he))

/-- The stable sort's first two places are the two largest entries'. -/
theorem IsTop2.sorted (h : IsTop2 f i1 i2) (k : Fin 2) {z : Fin n} (hz : z.val = k.val) :
    sortedFrom (greater f) z = place i1 i2 k := by
  unfold place
  split
  · next hk => exact h.sorted_zero (hz.trans hk)
  · next hk =>
    have hk1 : k.val = 1 := by have := k.isLt; omega
    exact h.sorted_one (z := ⟨0, by have := z.isLt; omega⟩) rfl (hz.trans hk1)

/-- The sort's order on a row is the comparison the host's top-k is given. -/
theorem greater_eq (f : Fin n → EReal) :
    (fun k k' => (FloatOps.cmpfTotal (F := Ideal) (φ := .f32) .gt (f k) (f k') : BitVec 1) == 1#1) = greater f := by
  funext k k'
  show (BitVec.ofBool (decide (f k' < f k)) == 1#1) = decide (f k' < f k)
  cases decide (f k' < f k) <;> rfl

variable {R : Nat} (x : Vec Ideal ⟨2, ![R, 64]⟩ .f32) (hx : (⟨2, ![R, 64]⟩ : Shape).Slices (fun _ => 0) ⟨2, ![R, 2]⟩)

/-- Moving along the second axis of a matrix changes the second coordinate. -/
theorem along_ix2 {A B : Nat} (a : Fin A) (b k : Fin B) : (ix2 a b).along 1 k = ix2 a k := by
  funext i
  match i with
  | ⟨0, _⟩ => rfl
  | ⟨1, _⟩ => rfl

/-- A stable sort of two matrices along the second axis, read in the first. -/
theorem sort2_fst {A B : Nat} {α β : Type} (cmp : α × β → α × β → BitVec 1) (u : (⟨2, ![A, B]⟩ : Shape).Idx → α)
    (v : (⟨2, ![A, B]⟩ : Shape).Idx → β) (a : Fin A) (b : Fin B) :
    (Host.sort2 ⟨2, ![A, B]⟩ 1 cmp u v).1 (ix2 a b) =
      u (ix2 a (sortedFrom (fun k k' => cmp (u (ix2 a k), v (ix2 a k)) (u (ix2 a k'), v (ix2 a k')) == 1#1) b)) := by
  have e : (fun k : Fin B => (ix2 a b).along 1 k) = fun k => ix2 a k := funext (along_ix2 a b)
  exact congrArg (fun g : Fin B → (⟨2, ![A, B]⟩ : Shape).Idx =>
    u (g (sortedFrom (fun k k' => cmp (u (g k), v (g k)) (u (g k'), v (g k')) == 1#1) b))) e

/-- The same read in the second. -/
theorem sort2_snd {A B : Nat} {α β : Type} (cmp : α × β → α × β → BitVec 1) (u : (⟨2, ![A, B]⟩ : Shape).Idx → α)
    (v : (⟨2, ![A, B]⟩ : Shape).Idx → β) (a : Fin A) (b : Fin B) :
    (Host.sort2 ⟨2, ![A, B]⟩ 1 cmp u v).2 (ix2 a b) =
      v (ix2 a (sortedFrom (fun k k' => cmp (u (ix2 a k), v (ix2 a k)) (u (ix2 a k'), v (ix2 a k')) == 1#1) b)) := by
  have e : (fun k : Fin B => (ix2 a b).along 1 k) = fun k => ix2 a k := funext (along_ix2 a b)
  exact congrArg (fun g : Fin B → (⟨2, ![A, B]⟩ : Shape).Idx =>
    v (g (sortedFrom (fun k k' => cmp (u (g k), v (g k)) (u (g k'), v (g k')) == 1#1) b))) e

/-- The place of the `k`-th of two among sixty-four. -/
def wide (k : Fin 2) : Fin 64 := ⟨k.val, by have := k.isLt; omega⟩

/-- Cutting a matrix to its first two columns keeps the entries. -/
theorem slice_at {α : Type} (u : (⟨2, ![R, 64]⟩ : Shape).Idx → α) (r : Fin R) (k : Fin 2) :
    extractStridedSlice ⟨2, ![R, 2]⟩ (fun _ => 0) u hx (ix2 r k) = u (ix2 r (wide k)) := by
  unfold extractStridedSlice
  congr 1
  funext a
  match a with
  | ⟨0, _⟩ => exact Fin.ext (Nat.zero_add _)
  | ⟨1, _⟩ => exact Fin.ext (Nat.zero_add _)

/-- The words of the second coordinate. -/
def columns : IVec ⟨2, ![R, 64]⟩ 32 := fun i => BitVec.ofNat 32 (i 1).val

/-- The host's top-k is a stable sort of the matrix with its column numbers, cut to two columns. -/
theorem topK_eq (gt : EReal → EReal → BitVec 1) :
    Host.topK ⟨2, ![R, 2]⟩ 1 gt x hx =
      (extractStridedSlice ⟨2, ![R, 2]⟩ (fun _ => 0) (Host.sort2 ⟨2, ![R, 64]⟩ 1 (fun l r => gt l.1 r.1) x columns).1 hx,
        extractStridedSlice ⟨2, ![R, 2]⟩ (fun _ => 0) (Host.sort2 ⟨2, ![R, 64]⟩ 1 (fun l r => gt l.1 r.1) x columns).2 hx) :=
  rfl

variable {x} {r : Fin R} {f : Fin 64 → EReal} {i1 i2 : Fin 64}

/-- The values the host's top-k gives: the two largest entries of each row. -/
theorem topK_values (hf : ∀ e, x (ix2 r e) = f e) (h : IsTop2 f i1 i2) (k : Fin 2) :
    (Host.topK ⟨2, ![R, 2]⟩ 1 (FloatOps.cmpfTotal (F := Ideal) (φ := .f32) .gt) x hx).1 (ix2 r k) = f (place i1 i2 k) := by
  rw [topK_eq]
  dsimp only
  rw [slice_at, sort2_fst, hf]
  simp only [hf]
  rw [greater_eq, h.sorted k rfl]

/-- The indices the host's top-k gives: the places of the two largest entries of each row. -/
theorem topK_indices (hf : ∀ e, x (ix2 r e) = f e) (h : IsTop2 f i1 i2) (k : Fin 2) :
    (Host.topK ⟨2, ![R, 2]⟩ 1 (FloatOps.cmpfTotal (F := Ideal) (φ := .f32) .gt) x hx).2 (ix2 r k)
      = BitVec.ofNat 32 (place i1 i2 k).val := by
  rw [topK_eq]
  dsimp only
  rw [slice_at, sort2_snd]
  simp only [hf]
  rw [greater_eq, h.sorted k rfl]
  rfl

end Cert.Router

end

end
-- ==== Proof.ReferenceRow.lean ====
module
public import proofs.«01_k».proof.Proof.Gen.ReferenceIdeal.Run
public import proofs.«01_k».proof.Proof.SortTop2
public import Idealize.ShloMosaic.Lib.Pipeline.ValueKit
public import Idealize.ShloMosaic.Lib.Tactic.CleanTypes
public import Idealize.ShloMosaic.Lib.Routing.OpsPair

/-!
What the reference computes on one token: its logits, the softmax of the two kept logits, and the
pairs of indices its scatter writes at.
-/

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Router

/-- The matrix of logits the reference forms. -/
def logitMatrix (x : Vec Ideal S16384x2048 .f32) (W : Vec Ideal S2048x64 .f32) (b : Vec Ideal S64 .f32) :
    Vec Ideal S16384x64 .f32 :=
  addf (F := Ideal) (Host.dotGeneral (F := Ideal) (φ₁ := .f32) (φ₂ := .f32) dot_S16384x2048_S2048x64_S16384x64_1_0_0_1_n_n none x W)
    (broadcastInDim S16384x64 ![0, 1] bcast_S1x64_S16384x64_0_1 (broadcastInDim S1x64 ![1] bcast_S64_S1x64_1 b))

/-- Each of its entries is the token's logit for the expert. -/
theorem logitMatrix_at (x : Vec Ideal S16384x2048 .f32) (W : Vec Ideal S2048x64 .f32) (b : Vec Ideal S64 .f32)
    (r : Fin 16384) (e : Fin 64) : logitMatrix x W b (ix2 r e) = logit x W b r e := by
  unfold logit
  pointwise [logitMatrix]

/-- The exponentials of the kept logits less the row's largest. -/
def exps (v : Vec Ideal S16384x2 .f32) : Vec Ideal S16384x2 .f32 :=
  Host.exp (F := Ideal) (subf (F := Ideal) v (broadcastInDim S16384x2 ![0, 1] bcast_S16384x1_S16384x2_0_1
    (broadcastInDim S16384x1 ![0] bcast_S16384_S16384x1_0
      (maximumf (F := Ideal) (broadcastInDim S16384 ![] bcast_S_S16384 (constant (F := Ideal) S_ .f32 0xFF800000#32))
        (Host.reduce (FloatOps.maximumf (F := Ideal)) v (constant (F := Ideal) S_ .f32 0xFF800000#32)
          reducesTo_S16384x2_S16384_d1 h_S_)))))

/-- The softmax of the kept logits. -/
def probs (v : Vec Ideal S16384x2 .f32) : Vec Ideal S16384x2 .f32 :=
  Host.divf (F := Ideal) (exps v) (broadcastInDim S16384x2 ![0, 1] bcast_S16384x1_S16384x2_0_1
    (broadcastInDim S16384x1 ![0] bcast_S16384_S16384x1_0
      (Host.reduceAdd (F := Ideal) (exps v) (constant (F := Ideal) S_ .f32 0x00000000#32) reducesTo_S16384x2_S16384_d1 h_S_)))

/-- The row numbers the scatter writes at. -/
def rowWords : Vec Ideal S16384x2x1 .i32 :=
  broadcastInDim S16384x2x1 ![0, 1] bcast_S16384x2_S16384x2x1_0_1 (broadcastInDim S16384x2 ![0, 1] bcast_S16384x1_S16384x2_0_1
    (select (cmpi .slt (broadcastInDim S16384x1 ![0] bcast_S16384_S16384x1_0 (iotaInDim S16384 32 0))
        (broadcastInDim S16384x1 ![] bcast_S_S16384x1 (constantI S_ 32 0#32)))
      (addi (broadcastInDim S16384x1 ![0] bcast_S16384_S16384x1_0 (iotaInDim S16384 32 0))
        (broadcastInDim S16384x1 ![] bcast_S_S16384x1 (constantI S_ 32 16384#32)))
      (broadcastInDim S16384x1 ![0] bcast_S16384_S16384x1_0 (iotaInDim S16384 32 0))))

/-- The expert numbers the scatter writes at. -/
def expertWords (i : Vec Ideal S16384x2 .i32) : Vec Ideal S16384x2x1 .i32 :=
  broadcastInDim S16384x2x1 ![0, 1] bcast_S16384x2_S16384x2x1_0_1
    (select (cmpi .slt i (broadcastInDim S16384x2 ![] bcast_S_S16384x2 (constantI S_ 32 0#32)))
      (addi i (broadcastInDim S16384x2 ![] bcast_S_S16384x2 (constantI S_ 32 64#32))) i)

/-- The two side by side. -/
def pairs (i : Vec Ideal S16384x2 .i32) : Vec Ideal S16384x2x2 .i32 :=
  concatenate S16384x2x2 2 [⟨S16384x2x1, rowWords⟩, ⟨S16384x2x1, expertWords i⟩]
    concatenates_S16384x2x1_S16384x2x1_S16384x2x2_d2

/-- The kept logits and their experts. -/
def kept (x : Vec Ideal S16384x2048 .f32) (W : Vec Ideal S2048x64 .f32) (b : Vec Ideal S64 .f32) :
    Vec Ideal S16384x2 .f32 × Vec Ideal S16384x2 .i32 :=
  Host.topK S16384x2 1 (FloatOps.cmpfTotal (F := Ideal) (φ := .f32) .gt) (logitMatrix x W b) sliceFits_S16384x64_S16384x2

/-- The reference's first result is the scatter of the softmax at the pairs, into zeros. -/
theorem res_eq (m : (ℓ : Loc nD τ sig) → Buf (Elt Ideal) ℓ) (c : Dev nD) :
    res_main_v32 (F := Ideal) m c =
      Host.scatter scatter_S16384x64_S16384x2x2_S16384x2_n_01_01_2 (fun _ b => b)
        (broadcastInDim S16384x64 ![] bcast_S_S16384x64 (constant (F := Ideal) S_ .f32 0x00000000#32))
        (pairs (kept (m ((c.tc : Thread nD τ).loc main_arg0)) (m ((c.tc : Thread nD τ).loc main_arg1)) (m ((c.tc : Thread nD τ).loc main_arg2))).2)
        (probs (kept (m ((c.tc : Thread nD τ).loc main_arg0)) (m ((c.tc : Thread nD τ).loc main_arg1)) (m ((c.tc : Thread nD τ).loc main_arg2))).1) :=
  rfl

variable {v : Vec Ideal S16384x2 .f32} {r : Fin 16384} {f : Fin 64 → EReal} {i1 i2 : Fin 64}

/-- The exponential of a kept logit less the largest. -/
theorem exps_at (hv : ∀ k, v (ix2 r k) = f (place i1 i2 k)) (h : IsTop2 f i1 i2) (k : Fin 2) :
    exps v (ix2 r k) = Ideal.exp (f (place i1 i2 k) - f i1) := by
  have hmax : Finset.univ.fold max ⊥ (fun x : Fin 2 => f (place i1 i2 x)) = f i1 :=
    fold_max_eq (fun x : Fin 2 => f (place i1 i2 x)) 0 fun j => h.max1 _
  pointwise [exps]
  rw [ofBits_negInf]
  simp only [hv]
  rw [hmax, max_eq_right bot_le]

/-- The first kept logit's exponential is one. -/
theorem exp_sub_self (h1 : f i1 ≠ ⊥) (h1' : f i1 ≠ ⊤) : Ideal.exp (f i1 - f i1) = 1 := by
  rw [EReal.sub_self h1' h1, ← EReal.coe_zero, Ideal.exp_coe, Real.exp_zero, EReal.coe_one]

/-- The softmax of the two kept logits, in their order. -/
theorem probs_at (hv : ∀ k, v (ix2 r k) = f (place i1 i2 k)) (h : IsTop2 f i1 i2) (h1 : f i1 ≠ ⊥) (h1' : f i1 ≠ ⊤) (k : Fin 2) :
    probs v (ix2 r k) = if k.val = 0 then Ideal.div 1 (1 + Ideal.exp (f i2 - f i1))
      else Ideal.div (Ideal.exp (f i2 - f i1)) (1 + Ideal.exp (f i2 - f i1)) := by
  have h0 : exps v (ix2 r 0) = 1 := (exps_at hv h 0).trans (exp_sub_self h1 h1')
  have h2 : exps v (ix2 r 1) = Ideal.exp (f i2 - f i1) := exps_at hv h 1
  pointwise [probs]
  rw [Fin.sum_univ_two, h0, h2]
  fin_cases k
  · exact congrArg (Ideal.div · _) h0
  · exact congrArg (Ideal.div · _) h2

/-- A pair's first word is its row. -/
theorem pairs_row (i : Vec Ideal S16384x2 .i32) (a : Fin 16384) (k : Fin 2) : (pairs i (ix3 a k 0)).toInt = a.val := by
  have ha := a.isLt
  have e : pairs i (ix3 a k 0) = BitVec.ofNat 32 a.val := by
    pointwise [pairs, rowWords]
    exact Routing.wrap_of_lt _ _ (by rw [BitVec.toNat_ofNat]; omega)
  rw [e, BitVec.toInt_eq_toNat_of_lt (by rw [BitVec.toNat_ofNat]; omega), BitVec.toNat_ofNat, Nat.mod_eq_of_lt (by omega)]

/-- Its second word is the expert kept there. -/
theorem pairs_expert {i : Vec Ideal S16384x2 .i32} {k : Fin 2} {e : Fin 64} (hi : i (ix2 r k) = BitVec.ofNat 32 e.val) :
    (pairs i (ix3 r k 1)).toInt = e.val := by
  have he := e.isLt
  have h : pairs i (ix3 r k 1) = BitVec.ofNat 32 e.val := by
    pointwise [pairs, expertWords]
    rw [hi]
    exact Routing.wrap_of_lt _ _ (by rw [BitVec.toNat_ofNat]; omega)
  rw [h, toInt_ofNat_fin (le_refl _)]

end Cert.ReferenceIdeal.Value

end

end
-- ==== Proof.ReferenceResult.lean ====
module
public import proofs.«01_k».proof.Proof.ReferenceRow
public import Idealize.ShloMosaic.Lib.Routing.OpsSet
public import Idealize.ShloMosaic.Lib.Pointwise.IndexBridge

/-!
The reference's two results, entry by entry: the scatter of the softmax is the row of gates, the
kept indices are the chosen experts.
-/

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.Router

/-- Update `(a, k)` of the scatter lands at `(r, e)` exactly when its two words are `r` and `e`. -/
theorem lands (idx : Vec Ideal S16384x2x2 .i32) (a r : Fin 16384) (k : Fin 2) (e : Fin 64) :
    scatter_S16384x64_S16384x2x2_S16384x2_n_01_01_2.resultIdx? (ix2 a k) idx = some (ix2 r e)
      ↔ (idx (ix3 a k 0)).toInt = r.val ∧ (idx (ix3 a k 1)).toInt = e.val := by
  simp only [ix2_eq_valueIdx, ix3_eq_valueIdx]
  exact Routing.scatter_lands2 scatter_S16384x64_S16384x2x2_S16384x2_n_01_01_2 rfl rfl rfl idx a k r e

variable {v : Vec Ideal S16384x2 .f32} {i : Vec Ideal S16384x2 .i32} {r : Fin 16384} {f : Fin 64 → EReal} {i1 i2 : Fin 64}

/-- The scatter of the softmax at the pairs, into zeros, is the row of gates. -/
theorem scatter_at (hv : ∀ k, v (ix2 r k) = f (place i1 i2 k)) (hi : ∀ k, i (ix2 r k) = BitVec.ofNat 32 (place i1 i2 k).val)
    (h : IsTop2 f i1 i2) (h1 : f i1 ≠ ⊥) (h1' : f i1 ≠ ⊤) (e : Fin 64) :
    Host.scatter scatter_S16384x64_S16384x2x2_S16384x2_n_01_01_2 (fun _ b => b)
      (broadcastInDim S16384x64 ![] bcast_S_S16384x64 (constant (F := Ideal) S_ .f32 0x00000000#32)) (pairs i) (probs v) (ix2 r e)
      = gate f i1 i2 e := by
  have hl : ∀ (a : Fin 16384) (k : Fin 2),
      scatter_S16384x64_S16384x2x2_S16384x2_n_01_01_2.resultIdx? (ix2 a k) (pairs i) = some (ix2 r e)
        ↔ a = r ∧ place i1 i2 k = e := by
    intro a k
    rw [lands, pairs_row]
    refine ⟨fun q => ?_, fun q => ?_⟩
    · have ha : a = r := Fin.ext (by omega)
      subst ha
      have := q.2
      rw [pairs_expert (hi k)] at this
      exact ⟨rfl, Fin.ext (by omega)⟩
    · obtain ⟨rfl, rfl⟩ := q
      exact ⟨rfl, pairs_expert (hi k)⟩
  have hp := probs_at hv h h1 h1'
  have hit : ∀ k : Fin 2, place i1 i2 k = e → Host.scatter scatter_S16384x64_S16384x2x2_S16384x2_n_01_01_2 (fun _ b => b)
      (broadcastInDim S16384x64 ![] bcast_S_S16384x64 (constant (F := Ideal) S_ .f32 0x00000000#32)) (pairs i) (probs v) (ix2 r e)
      = probs v (ix2 r k) := by
    intro k hk
    refine Routing.scatter_set_hit _ _ _ _ _ _ (fun j hj => ?_) (ix2 r k) ((hl r k).2 ⟨rfl, hk⟩)
    obtain ⟨a, k', rfl⟩ : ∃ (a : Fin 16384) (k' : Fin 2), j = ix2 a k' := ⟨j 0, j 1, eq_ix2 j⟩
    obtain ⟨rfl, hk'⟩ := (hl a k').1 hj
    have : k' = k := by
      have hkk := hk'.trans hk.symm
      unfold place at hkk
      have := h.ne
      fin_cases k <;> fin_cases k' <;> simp_all
    rw [this]
  unfold gate
  by_cases e1 : e = i1
  · rw [hit 0 e1.symm, hp, if_pos (show (0 : Fin 2).val = 0 from rfl), if_pos e1, if_neg fun e2 => h.ne (e2.symm.trans e1), add_zero]
  · by_cases e2 : e = i2
    · rw [hit 1 e2.symm, hp, if_neg (by decide), if_neg e1, if_pos e2, zero_add]
    · rw [if_neg e1, if_neg e2, add_zero, Routing.scatter_set_miss]
      · pointwise
      · intro j hj
        obtain ⟨a, k, rfl⟩ : ∃ (a : Fin 16384) (k : Fin 2), j = ix2 a k := ⟨j 0, j 1, eq_ix2 j⟩
        have hk := ((hl a k).1 hj).2
        unfold place at hk
        split at hk
        · exact e1 hk.symm
        · exact e2 hk.symm

variable (x : Vec Ideal S16384x2048 .f32) (W : Vec Ideal S2048x64 .f32) (b : Vec Ideal S64 .f32)

/-- The kept logits of a token. -/
theorem kept_values (h : IsTop2 (logit x W b r) i1 i2) (k : Fin 2) :
    (kept x W b).1 (ix2 r k) = logit x W b r (place i1 i2 k) :=
  topK_values _ (logitMatrix_at x W b r) h k

/-- The experts kept for a token. -/
theorem kept_experts (h : IsTop2 (logit x W b r) i1 i2) (k : Fin 2) :
    (kept x W b).2 (ix2 r k) = BitVec.ofNat 32 (place i1 i2 k).val :=
  topK_indices _ (logitMatrix_at x W b r) h k

/-- The reference's first result at finite logits: the gates of all tokens. -/
theorem result_gates (m : (ℓ : Loc nD τ sig) → Buf (Elt Ideal) ℓ) (c : Dev nD)
    (hx : m ((c.tc : Thread nD τ).loc main_arg0) = x) (hW : m ((c.tc : Thread nD τ).loc main_arg1) = W)
    (hb : m ((c.tc : Thread nD τ).loc main_arg2) = b) (hf : ∀ r e, logit x W b r e ≠ ⊥ ∧ logit x W b r e ≠ ⊤) :
    (res_main_v32 (F := Ideal) m c : Vec Ideal S16384x64 .f32) = gateRows x W b := by
  rw [res_eq, hx, hW, hb]
  funext j
  obtain ⟨r, e, rfl⟩ : ∃ (r : Fin 16384) (e : Fin 64), j = ix2 r e := ⟨j 0, j 1, eq_ix2 j⟩
  have h := isTop2 (logit x W b r)
  exact scatter_at (kept_values x W b h) (kept_experts x W b h) h (hf r _).1 (hf r _).2 e

/-- The reference's second result: the chosen experts of all tokens. -/
theorem result_experts : (kept x W b).2 = expertRows x W b := by
  funext j
  obtain ⟨r, k, rfl⟩ : ∃ (r : Fin 16384) (k : Fin 2), j = ix2 r k := ⟨j 0, j 1, eq_ix2 j⟩
  exact kept_experts x W b (isTop2 (logit x W b r)) k

end Cert.ReferenceIdeal.Value

end

end
-- ==== Proof.Finite.lean ====
module
public import proofs.«01_k».proof.Proof.Gen.Pre_finite_arguments
public import proofs.«01_k».proof.Proof.Logits
public import Idealize.ShloMosaic.Lib.ReduceAll

/-!
The precondition read back: every entry of the three arguments is a real number, so every logit is.
-/

@[expose] public section

set_option maxRecDepth 16384

noncomputable section

namespace Cert.Router

open Idealize.ShloMosaic

/-- An extended real that is a real number. -/
def Finite (x : EReal) : Prop := x ≠ ⊥ ∧ x ≠ ⊤

theorem Finite.coe (a : ℝ) : Finite (a : EReal) := ⟨EReal.coe_ne_bot a, EReal.coe_ne_top a⟩

theorem Finite.exists_coe {x : EReal} (h : Finite x) : ∃ a : ℝ, x = a := ⟨x.toReal, (EReal.coe_toReal h.2 h.1).symm⟩

theorem Finite.mul {x y : EReal} (hx : Finite x) (hy : Finite y) : Finite (x * y) := by
  obtain ⟨a, rfl⟩ := hx.exists_coe
  obtain ⟨b, rfl⟩ := hy.exists_coe
  rw [← EReal.coe_mul]
  exact Finite.coe _

theorem Finite.add {x y : EReal} (hx : Finite x) (hy : Finite y) : Finite (x + y) := by
  obtain ⟨a, rfl⟩ := hx.exists_coe
  obtain ⟨b, rfl⟩ := hy.exists_coe
  rw [← EReal.coe_add]
  exact Finite.coe _

theorem Finite.sum {ι : Type} (s : Finset ι) (g : ι → EReal) (h : ∀ i, Finite (g i)) : Finite (∑ i ∈ s, g i) := by
  classical
  induction s using Finset.induction_on with
  | empty => rw [Finset.sum_empty]; exact Finite.coe 0
  | insert a s ha ih => rw [Finset.sum_insert ha]; exact (h a).add ih

/-- The logits of finite arguments are finite. -/
theorem finite_logit {x : Vec Ideal ⟨2, ![16384, 2048]⟩ .f32} {W : Vec Ideal ⟨2, ![2048, 64]⟩ .f32} {b : Vec Ideal ⟨1, ![64]⟩ .f32}
    (hx : ∀ j, Finite (x j)) (hW : ∀ j, Finite (W j)) (hb : ∀ j, Finite (b j)) (r : Fin 16384) (e : Fin 64) :
    Finite (logit x W b r e) :=
  (Finite.sum _ _ fun _ => (hx _).mul (hW _)).add (hb _)

/-- An absolute value below plus infinity is that of a real number. -/
theorem finite_of_abs {x : EReal} (h : Ideal.cmp .olt (max x (-x)) (Ideal.ofBits .f32 0x7F800000#32) = 1#1) : Finite x := by
  have e : Ideal.ofBits .f32 0x7F800000#32 = ⊤ := by simp [Ideal.ofBits, Ideal.ieee]
  rw [e] at h
  constructor <;> rintro rfl <;> simp [Ideal.cmp] at h

/-- A conjunction of two bits that is one has both bits one. -/
theorem andi_eq_one {a b : BitVec 1} (h : IntOp.andi a b = 1#1) : a = 1#1 ∧ b = 1#1 := by
  revert a b
  decide

/-- The precondition says that every entry of the three arguments is a real number. -/
theorem finite_arguments {x : Vec Ideal ⟨2, ![16384, 2048]⟩ .f32} {W : Vec Ideal ⟨2, ![2048, 64]⟩ .f32} {b : Vec Ideal ⟨1, ![64]⟩ .f32}
    (h : Cert.Pre_finite_arguments.fn (F := Ideal) x W b = fun _ => 1#1) :
    (∀ j, Finite (x j)) ∧ (∀ j, Finite (W j)) ∧ ∀ j, Finite (b j) := by
  haveI : Subsingleton Cert.Pre_finite_arguments.S_.Idx := ⟨fun p q => funext fun i => i.elim0⟩
  have h0 := congrFun h ix0
  obtain ⟨h12, h3⟩ := andi_eq_one h0
  obtain ⟨h1, h2⟩ := andi_eq_one h12
  refine ⟨fun j => ?_, fun j => ?_, fun j => ?_⟩
  · exact finite_of_abs (Host.reduce_andi_all _ _ _ _ _ h1 j)
  · exact finite_of_abs (Host.reduce_andi_all _ _ _ _ _ h2 j)
  · exact finite_of_abs (Host.reduce_andi_all _ _ _ _ _ h3 j)

end Cert.Router

end

end
-- ==== Proof.Equation.lean ====
module
public import proofs.«01_k».proof.Defs
public import proofs.«01_k».proof.Proof.KernelRun
public import proofs.«01_k».proof.Proof.ReferenceResult
public import proofs.«01_k».proof.Proof.Finite

/-!
The kernel and the reference, on the same finite arguments, end with equal results.
-/

@[expose] public section

set_option maxRecDepth 16384

noncomputable section

namespace Cert.Proof

open Idealize.ShloMosaic Idealize.SL.Sem Cert.Router

/-- Both results of the kernel are the reference's, on finite arguments: the gates and the chosen
    experts of every token. -/
theorem results_equal : Cert.algebraic_KernelIdeal_ReferenceIdeal_pre_finite_arguments := by
  intro m g m' g' hpre hargs
  have hfin : ∀ (c : Dev Cert.KernelIdeal.nD) r e, Finite (Cert.KernelIdeal.Value.row m c r e) := fun c r e =>
    have h := finite_arguments (hpre c)
    finite_logit h.1 h.2.1 h.2.2 r e
  refine ⟨Cert.KernelIdeal.Value.gates m, Cert.KernelIdeal.Value.experts m,
    Cert.KernelIdeal.Value.run (fun c r e => bot_lt_iff_ne_bot.2 (hfin c r e).1) g, ?_⟩
  refine (θ_run Cert.ReferenceIdeal.defs _ _).mono (fun r h c => ?_) (Cert.ReferenceIdeal.Value.run m' g')
  obtain ⟨h0, h1, h2⟩ := hargs c
  refine ⟨(h c).1.trans (Cert.ReferenceIdeal.Value.result_gates _ _ _ m' c h0 h1 h2 (hfin c)), (h c).2.1.trans ?_, (h c).2.2⟩
  rw [h0, h1, h2]
  exact Cert.ReferenceIdeal.Value.result_experts _ _ _

end Cert.Proof

end

end
-- ==== Proof.lean ====
/- The proof of the certificate's claim: the three frames, and the equation between the kernel's two
   results and the reference's on finite arguments (`Proof/Equation.lean`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_arguments
public import proofs.«01_k».proof.Proof.Gen.ReferenceIdeal.Run
public import proofs.«01_k».proof.Proof.Equation
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- The reference runs to the end, leaves its arguments as they were, and declares no semaphore, so every counter
    is zero at the end. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono
    (fun r h => ⟨fun c => (h c).2.2, sem_eq_zero_of_no_sems (by decide) r.2⟩)
    (Cert.ReferenceIdeal.Value.run m g)

/-- Everything the certificate claims. -/
theorem claim : Cert.Claim := ⟨Cert.Kernel.Gen.facts, Cert.KernelIdeal.Gen.facts, Cert.ReferenceIdeal.Gen.facts,
  Cert.Pre_finite_arguments.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ,
  fun m ρ _ => frame_reference m ρ,
  trivial,
  results_equal⟩

end Cert.Proof

end
